-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S4096x256 : Shape := ⟨2, ![4096, 256]⟩
abbrev S4096x4096 : Shape := ⟨2, ![4096, 4096]⟩
abbrev S4x256x128 : Shape := ⟨3, ![4, 256, 128]⟩
abbrev S4x128x1 : Shape := ⟨3, ![4, 128, 1]⟩
abbrev S_ : Shape := ⟨0, ![]⟩
abbrev S4096 : Shape := ⟨1, ![4096]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x128x1 : S_.BroadcastsInDim S4x128x1 (![] : Fin 0 → Fin S4x128x1.rank)
  reducesTo_S4x128x1_S_d0_1_2 : S4x128x1.ReducesTo [0, 1, 2] S_
  bcast_S_S4096x4096 : S_.BroadcastsInDim S4096x4096 (![] : Fin 0 → Fin S4096x4096.rank)
  reducesTo_S4096x4096_S_d0_1 : S4096x4096.ReducesTo [0, 1] S_
  reducesTo_S4096x4096_S4096_d1 : S4096x4096.ReducesTo [1] S4096
  reducesTo_S4096_S_d0 : S4096.ReducesTo [0] S_

variable [Facts]

def fn_part1 {F : FTy → Type} [FloatOps F] (main_arg1 : FVec F S4096x4096 .f32) (main_v13 : IVec S_ 1) (main_v16 : IVec S4x128x1 1) : IVec S_ 1 :=
  let main_c_5 : IVec S_ 1 := constantI S_ 1 1#1
  let main_v17 : IVec S_ 1 := (fun x v => Host.reduce IntOp.andi x v reducesTo_S4x128x1_S_d0_1_2 h_S_) main_v16 main_c_5
  let main_v18 : IVec S_ 1 := andi main_v13 main_v17
  let main_cst_6 : FVec F S_ .f32 := constant S_ .f32 0x00000000#32
  let main_v19 : FVec F S4096x4096 .f32 := broadcastInDim S4096x4096 ![] bcast_S_S4096x4096 main_cst_6
  let main_v20 : IVec S4096x4096 1 := cmpf .oeq main_arg1 main_v19
  let main_cst_7 : FVec F S_ .f32 := constant S_ .f32 0x3F800000#32
  let main_v21 : FVec F S4096x4096 .f32 := broadcastInDim S4096x4096 ![] bcast_S_S4096x4096 main_cst_7
  let main_v22 : IVec S4096x4096 1 := cmpf .oeq main_arg1 main_v21
  let main_v23 : IVec S4096x4096 1 := ori main_v20 main_v22
  let main_c_8 : IVec S_ 1 := constantI S_ 1 1#1
  let main_v24 : IVec S_ 1 := (fun x v => Host.reduce IntOp.andi x v reducesTo_S4096x4096_S_d0_1 h_S_) main_v23 main_c_8
  let main_cst_9 : FVec F S_ .f32 := constant S_ .f32 0x3F800000#32
  let main_v25 : FVec F S4096x4096 .f32 := broadcastInDim S4096x4096 ![] bcast_S_S4096x4096 main_cst_9
  let main_v26 : IVec S4096x4096 1 := cmpf .oeq main_arg1 main_v25
  let main_c_10 : IVec S_ 1 := constantI S_ 1 0#1
  let main_v27 : IVec S4096 1 := (fun x v => Host.reduce IntOp.ori x v reducesTo_S4096x4096_S4096_d1 h_S_) main_v26 main_c_10
  let main_c_11 : IVec S_ 1 := constantI S_ 1 1#1
  let main_v28 : IVec S_ 1 := (fun x v => Host.reduce IntOp.andi x v reducesTo_S4096_S_d0 h_S_) main_v27 main_c_11
  let main_v29 : IVec S_ 1 := andi main_v18 main_v24
  let main_v30 : IVec S_ 1 := andi main_v29 main_v28
  main_v30

def fn {F : FTy → Type} [FloatOps F] (main_arg0 : FVec F S4096x256 .f32) (main_arg1 : FVec F S4096x4096 .f32) (main_arg2 : FVec F S4x256x128 .f32) (main_arg3 : FVec F S4x128x1 .f32) (main_arg4 : FVec F S4x128x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x256x128 .f32 := Host.absf main_arg2
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_v9 : FVec F S4x128x1 .f32 := Host.absf main_arg3
  let main_cst_2 : FVec F S_ .f32 := constant S_ .f32 0x7F800000#32
  let main_v10 : FVec F S4x128x1 .f32 := broadcastInDim S4x128x1 ![] bcast_S_S4x128x1 main_cst_2
  let main_v11 : IVec S4x128x1 1 := cmpf .olt main_v9 main_v10
  let main_c_3 : IVec S_ 1 := constantI S_ 1 1#1
  let main_v12 : IVec S_ 1 := (fun x v => Host.reduce IntOp.andi x v reducesTo_S4x128x1_S_d0_1_2 h_S_) main_v11 main_c_3
  let main_v13 : IVec S_ 1 := andi main_v8 main_v12
  let main_v14 : FVec F S4x128x1 .f32 := Host.absf main_arg4
  let main_cst_4 : FVec F S_ .f32 := constant S_ .f32 0x7F800000#32
  let main_v15 : FVec F S4x128x1 .f32 := broadcastInDim S4x128x1 ![] bcast_S_S4x128x1 main_cst_4
  let main_v16 : IVec S4x128x1 1 := cmpf .olt main_v14 main_v15
  fn_part1 (F := F) main_arg1 main_v13 main_v16
-- ==== Kernel.lean ====
abbrev S4096x256 : Shape := ⟨2, ![4096, 256]⟩
abbrev S4096x4096 : Shape := ⟨2, ![4096, 4096]⟩
abbrev S4x256x128 : Shape := ⟨3, ![4, 256, 128]⟩
abbrev S4x128x1 : Shape := ⟨3, ![4, 128, 1]⟩
abbrev S_ : Shape := ⟨0, ![]⟩
abbrev S4x128x6 : Shape := ⟨3, ![4, 128, 6]⟩
abbrev S4x128x8 : Shape := ⟨3, ![4, 128, 8]⟩
abbrev S4x1x128 : Shape := ⟨3, ![4, 1, 128]⟩
abbrev S4x6x128 : Shape := ⟨3, ![4, 6, 128]⟩
abbrev S4x8x128 : Shape := ⟨3, ![4, 8, 128]⟩
abbrev S4096x512 : Shape := ⟨2, ![4096, 512]⟩
abbrev S512x4096 : Shape := ⟨2, ![512, 4096]⟩
abbrev S512x512 : Shape := ⟨2, ![512, 512]⟩
abbrev S4x4096x136 : Shape := ⟨3, ![4, 4096, 136]⟩
abbrev S4x4096x8 : Shape := ⟨3, ![4, 4096, 8]⟩
abbrev S4x8x4096 : Shape := ⟨3, ![4, 8, 4096]⟩
abbrev S4096x8 : Shape := ⟨2, ![4096, 8]⟩
abbrev S1x256x128 : Shape := ⟨3, ![1, 256, 128]⟩
abbrev S256x128 : Shape := ⟨2, ![256, 128]⟩
abbrev S4096x128 : Shape := ⟨2, ![4096, 128]⟩
abbrev S4096x136 : Shape := ⟨2, ![4096, 136]⟩
abbrev S1x4096x136 : Shape := ⟨3, ![1, 4096, 136]⟩
abbrev S1x128x8 : Shape := ⟨3, ![1, 128, 8]⟩
abbrev S128x8 : Shape := ⟨2, ![128, 8]⟩
abbrev S1x4096x8 : Shape := ⟨3, ![1, 4096, 8]⟩
abbrev S1x8x128 : Shape := ⟨3, ![1, 8, 128]⟩
abbrev S8x128 : Shape := ⟨2, ![8, 128]⟩
abbrev S8x4096 : Shape := ⟨2, ![8, 4096]⟩
abbrev S1x8x4096 : Shape := ⟨3, ![1, 8, 4096]⟩
abbrev S1x512x1 : Shape := ⟨3, ![1, 512, 1]⟩
abbrev S512x1 : Shape := ⟨2, ![512, 1]⟩
abbrev S1x1x4096 : Shape := ⟨3, ![1, 1, 4096]⟩
abbrev S1x4096 : Shape := ⟨2, ![1, 4096]⟩
abbrev S512x136 : Shape := ⟨2, ![512, 136]⟩
abbrev S512x128 : Shape := ⟨2, ![512, 128]⟩

abbrev nBuf : Space → Nat
  | .hbm => 19
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4x256x128, .f32⟩
  | .hbm, ⟨3, _⟩ => ⟨S4x128x1, .f32⟩
  | .hbm, ⟨4, _⟩ => ⟨S4x128x1, .f32⟩
  | .hbm, ⟨5, _⟩ => ⟨S_, .f32⟩
  | .hbm, ⟨6, _⟩ => ⟨S4x128x1, .f32⟩
  | .hbm, ⟨7, _⟩ => ⟨S4x128x1, .f32⟩
  | .hbm, ⟨8, _⟩ => ⟨S_, .f32⟩
  | .hbm, ⟨9, _⟩ => ⟨S4x128x6, .f32⟩
  | .hbm, ⟨10, _⟩ => ⟨S4x128x8, .f32⟩
  | .hbm, ⟨11, _⟩ => ⟨S4x1x128, .f32⟩
  | .hbm, ⟨12, _⟩ => ⟨S_, .f32⟩
  | .hbm, ⟨13, _⟩ => ⟨S4x1x128, .f32⟩
  | .hbm, ⟨14, _⟩ => ⟨S4x1x128, .f32⟩
  | .hbm, ⟨15, _⟩ => ⟨S_, .f32⟩
  | .hbm, ⟨16, _⟩ => ⟨S4x6x128, .f32⟩
  | .hbm, ⟨17, _⟩ => ⟨S4x8x128, .f32⟩
  | .hbm, ⟨18, _⟩ => ⟨S4096x512, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S4x256x128, .f32⟩
  | .local _ .vmem, ⟨4, _⟩ => ⟨S4x128x8, .f32⟩
  | .local _ .vmem, ⟨5, _⟩ => ⟨S4x8x128, .f32⟩
  | .local _ .vmem, ⟨6, _⟩ => ⟨S512x512, .f32⟩
  | .local _ .vmem, ⟨7, _⟩ => ⟨S512x512, .f32⟩
  | .local _ .vmem, ⟨8, _⟩ => ⟨S4x4096x136, .bf16⟩
  | .local _ .vmem, ⟨9, _⟩ => ⟨S4x4096x8, .bf16⟩
  | .local _ .vmem, ⟨10, _⟩ => ⟨S4x8x4096, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let c0_4 : Index := 0#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v10 : Index := Scalar.indexCast v7
  let c0_5 : Index := 0#32
  ![0, v10.toNat, 0]
def k0_off2 (i : grid0.Coords) : Fin 3 → Nat :=
  let c0_6 : Index := 0#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v13 : Index := Scalar.indexCast v7
  let c1 : Index := 1#32
  ![0, v13.toNat, 1]
def k0_off3 (i : grid0.Coords) : Fin 3 → Nat :=
  let c1_21 : Index := 1#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v44 : Index := Scalar.indexCast v7
  let c0_22 : Index := 0#32
  ![1, v44.toNat, 0]
def k0_off4 (i : grid0.Coords) : Fin 3 → Nat :=
  let c1_23 : Index := 1#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v47 : Index := Scalar.indexCast v7
  let c1_24 : Index := 1#32
  ![1, v47.toNat, 1]
def k0_off5 (i : grid0.Coords) : Fin 3 → Nat :=
  let c2 : Index := 2#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v78 : Index := Scalar.indexCast v7
  let c0_39 : Index := 0#32
  ![2, v78.toNat, 0]
def k0_off6 (i : grid0.Coords) : Fin 3 → Nat :=
  let c2_40 : Index := 2#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v81 : Index := Scalar.indexCast v7
  let c1_41 : Index := 1#32
  ![2, v81.toNat, 1]
def k0_off7 (i : grid0.Coords) : Fin 3 → Nat :=
  let c3 : Index := 3#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v112 : Index := Scalar.indexCast v7
  let c0_56 : Index := 0#32
  ![3, v112.toNat, 0]
def k0_off8 (i : grid0.Coords) : Fin 3 → Nat :=
  let c3_57 : Index := 3#32
  let arg0 : BitVec 32 := BitVec.ofNat 32 (i 0).val
  let c1_i32 : BitVec 32 := 1#32
  let v6 : BitVec 32 := Scalar.subi arg0 c1_i32
  let c512_i32 : BitVec 32 := 512#32
  let v7 : BitVec 32 := Scalar.muli v6 c512_i32
  let v115 : Index := Scalar.indexCast v7
  let c1_58 : Index := 1#32
  ![3, v115.toNat, 1]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4096x256 : Shape := ⟨2, ![4096, 256]⟩
abbrev S4096x4096 : Shape := ⟨2, ![4096, 4096]⟩
abbrev S4x256x128 : Shape := ⟨3, ![4, 256, 128]⟩
abbrev S4x128x1 : Shape := ⟨3, ![4, 128, 1]⟩
abbrev S_ : Shape := ⟨0, ![]⟩
abbrev S1x256x128 : Shape := ⟨3, ![1, 256, 128]⟩
abbrev S256x128 : Shape := ⟨2, ![256, 128]⟩
abbrev S4096x128 : Shape := ⟨2, ![4096, 128]⟩
abbrev S1x128x1 : Shape := ⟨3, ![1, 128, 1]⟩
abbrev S128x1 : Shape := ⟨2, ![128, 1]⟩
abbrev S4096x1 : Shape := ⟨2, ![4096, 1]⟩
abbrev S1x4096 : Shape := ⟨2, ![1, 4096]⟩
abbrev S4096 : Shape := ⟨1, ![4096]⟩
abbrev S4096x512 : Shape := ⟨2, ![4096, 512]⟩

abbrev nBuf : Space → Nat
  | .hbm => 181
  | .vmem => 0
  | .smem => 0
  | _ => 0

abbrev hbmTy0_0 (i : Nat) : BufTy := match i % 128 with
  | 0 => ⟨S4096x256, .f32⟩
  | 1 => ⟨S4096x4096, .f32⟩
  | 2 => ⟨S4x256x128, .f32⟩
  | 3 => ⟨S4x128x1, .f32⟩
  | 4 => ⟨S4x128x1, .f32⟩
  | 5 => ⟨S_, .f32⟩
  | 6 => ⟨S4096x4096, .f32⟩
  | 7 => ⟨S4096x4096, .i1⟩
  | 8 => ⟨S_, .f32⟩
  | 9 => ⟨S_, .f32⟩
  | 10 => ⟨S4096x4096, .f32⟩
  | 11 => ⟨S4096x4096, .f32⟩
  | 12 => ⟨S4096x4096, .f32⟩
  | 13 => ⟨S1x256x128, .f32⟩
  | 14 => ⟨S256x128, .f32⟩
  | 15 => ⟨S4096x128, .f32⟩
  | 16 => ⟨S1x128x1, .f32⟩
  | 17 => ⟨S128x1, .f32⟩
  | 18 => ⟨S4096x1, .f32⟩
  | 19 => ⟨S1x128x1, .f32⟩
  | 20 => ⟨S128x1, .f32⟩
  | 21 => ⟨S4096x1, .f32⟩
  | 22 => ⟨S1x4096, .f32⟩
  | 23 => ⟨S4096x4096, .f32⟩
  | 24 => ⟨S4096x4096, .f32⟩
  | 25 => ⟨S4096x4096, .f32⟩
  | 26 => ⟨S_, .f32⟩
  | 27 => ⟨S_, .f32⟩
  | 28 => ⟨S4096x4096, .f32⟩
  | 29 => ⟨S4096x4096, .i1⟩
  | 30 => ⟨S_, .f32⟩
  | 31 => ⟨S4096x4096, .f32⟩
  | 32 => ⟨S4096x4096, .f32⟩
  | 33 => ⟨S4096x4096, .f32⟩
  | 34 => ⟨S4096x4096, .f32⟩
  | 35 => ⟨S4096x4096, .f32⟩
  | 36 => ⟨S_, .f32⟩
  | 37 => ⟨S4096, .f32⟩
  | 38 => ⟨S_, .f32⟩
  | 39 => ⟨S4096, .f32⟩
  | 40 => ⟨S4096, .f32⟩
  | 41 => ⟨S4096x1, .f32⟩
  | 42 => ⟨S4096x4096, .f32⟩
  | 43 => ⟨S4096x4096, .f32⟩
  | 44 => ⟨S4096x4096, .f32⟩
  | 45 => ⟨S_, .f32⟩
  | 46 => ⟨S4096, .f32⟩
  | 47 => ⟨S4096x1, .f32⟩
  | 48 => ⟨S4096x4096, .f32⟩
  | 49 => ⟨S4096x4096, .f32⟩
  | 50 => ⟨S4096x128, .f32⟩
  | 51 => ⟨S1x256x128, .f32⟩
  | 52 => ⟨S256x128, .f32⟩
  | 53 => ⟨S4096x128, .f32⟩
  | 54 => ⟨S1x128x1, .f32⟩
  | 55 => ⟨S128x1, .f32⟩
  | 56 => ⟨S4096x1, .f32⟩
  | 57 => ⟨S1x128x1, .f32⟩
  | 58 => ⟨S128x1, .f32⟩
  | 59 => ⟨S4096x1, .f32⟩
  | 60 => ⟨S1x4096, .f32⟩
  | 61 => ⟨S4096x4096, .f32⟩
  | 62 => ⟨S4096x4096, .f32⟩
  | 63 => ⟨S4096x4096, .f32⟩
  | 64 => ⟨S_, .f32⟩
  | 65 => ⟨S_, .f32⟩
  | 66 => ⟨S4096x4096, .f32⟩
  | 67 => ⟨S4096x4096, .i1⟩
  | 68 => ⟨S_, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S4096, .f32⟩
  | 76 => ⟨S_, .f32⟩
  | 77 => ⟨S4096, .f32⟩
  | 78 => ⟨S4096, .f32⟩
  | 79 => ⟨S4096x1, .f32⟩
  | 80 => ⟨S4096x4096, .f32⟩
  | 81 => ⟨S4096x4096, .f32⟩
  | 82 => ⟨S4096x4096, .f32⟩
  | 83 => ⟨S_, .f32⟩
  | 84 => ⟨S4096, .f32⟩
  | 85 => ⟨S4096x1, .f32⟩
  | 86 => ⟨S4096x4096, .f32⟩
  | 87 => ⟨S4096x4096, .f32⟩
  | 88 => ⟨S4096x128, .f32⟩
  | 89 => ⟨S1x256x128, .f32⟩
  | 90 => ⟨S256x128, .f32⟩
  | 91 => ⟨S4096x128, .f32⟩
  | 92 => ⟨S1x128x1, .f32⟩
  | 93 => ⟨S128x1, .f32⟩
  | 94 => ⟨S4096x1, .f32⟩
  | 95 => ⟨S1x128x1, .f32⟩
  | 96 => ⟨S128x1, .f32⟩
  | 97 => ⟨S4096x1, .f32⟩
  | 98 => ⟨S1x4096, .f32⟩
  | 99 => ⟨S4096x4096, .f32⟩
  | 100 => ⟨S4096x4096, .f32⟩
  | 101 => ⟨S4096x4096, .f32⟩
  | 102 => ⟨S_, .f32⟩
  | 103 => ⟨S_, .f32⟩
  | 104 => ⟨S4096x4096, .f32⟩
  | 105 => ⟨S4096x4096, .i1⟩
  | 106 => ⟨S_, .f32⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S4096x1, .f32⟩
  | 118 => ⟨S4096x4096, .f32⟩
  | 119 => ⟨S4096x4096, .f32⟩
  | 120 => ⟨S4096x4096, .f32⟩
  | 121 => ⟨S_, .f32⟩
  | 122 => ⟨S4096, .f32⟩
  | 123 => ⟨S4096x1, .f32⟩
  | 124 => ⟨S4096x4096, .f32⟩
  | 125 => ⟨S4096x4096, .f32⟩
  | 126 => ⟨S4096x128, .f32⟩
  | 127 => ⟨S1x256x128, .f32⟩
  | _ => ⟨S4096x256, .f32⟩

abbrev hbmTy0_1 (i : Nat) : BufTy := match i % 128 with
  | 0 => ⟨S256x128, .f32⟩
  | 1 => ⟨S4096x128, .f32⟩
  | 2 => ⟨S1x128x1, .f32⟩
  | 3 => ⟨S128x1, .f32⟩
  | 4 => ⟨S4096x1, .f32⟩
  | 5 => ⟨S1x128x1, .f32⟩
  | 6 => ⟨S128x1, .f32⟩
  | 7 => ⟨S4096x1, .f32⟩
  | 8 => ⟨S1x4096, .f32⟩
  | 9 => ⟨S4096x4096, .f32⟩
  | 10 => ⟨S4096x4096, .f32⟩
  | 11 => ⟨S4096x4096, .f32⟩
  | 12 => ⟨S_, .f32⟩
  | 13 => ⟨S_, .f32⟩
  | 14 => ⟨S4096x4096, .f32⟩
  | 15 => ⟨S4096x4096, .i1⟩
  | 16 => ⟨S_, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S_, .f32⟩
  | 23 => ⟨S4096, .f32⟩
  | 24 => ⟨S_, .f32⟩
  | 25 => ⟨S4096, .f32⟩
  | 26 => ⟨S4096, .f32⟩
  | 27 => ⟨S4096x1, .f32⟩
  | 28 => ⟨S4096x4096, .f32⟩
  | 29 => ⟨S4096x4096, .f32⟩
  | 30 => ⟨S4096x4096, .f32⟩
  | 31 => ⟨S_, .f32⟩
  | 32 => ⟨S4096, .f32⟩
  | 33 => ⟨S4096x1, .f32⟩
  | 34 => ⟨S4096x4096, .f32⟩
  | 35 => ⟨S4096x4096, .f32⟩
  | 36 => ⟨S4096x128, .f32⟩
  | 37 => ⟨S4096x512, .f32⟩
  | 38 => ⟨S_, .f32⟩
  | 39 => ⟨S4096x512, .f32⟩
  | 40 => ⟨S4096x512, .i1⟩
  | 41 => ⟨S_, .f32⟩
  | 42 => ⟨S4096x512, .f32⟩
  | 43 => ⟨S4096x512, .i1⟩
  | 44 => ⟨S_, .f32⟩
  | 45 => ⟨S_, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_call3_cst : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_14 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_15 : Ref sig .tc := ⟨.hbm, 150, rfl⟩
abbrev main_v103 : Ref sig .tc := ⟨.hbm, 151, rfl⟩
abbrev main_cst_16 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_17 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call5_cst : Ref sig .tc := ⟨.hbm, 166, rfl⟩
abbrev main_call5_v0 : Ref sig .tc := ⟨.hbm, 167, rfl⟩
abbrev main_call5_v1 : Ref sig .tc := ⟨.hbm, 168, rfl⟩
abbrev main_call5_cst_0 : Ref sig .tc := ⟨.hbm, 169, rfl⟩
abbrev main_call5_v2 : Ref sig .tc := ⟨.hbm, 170, rfl⟩
abbrev main_call5_v3 : Ref sig .tc := ⟨.hbm, 171, rfl⟩
abbrev main_call5_cst_1 : Ref sig .tc := ⟨.hbm, 172, rfl⟩
abbrev main_call5_call0_v0 : Ref sig .tc := ⟨.hbm, 173, rfl⟩
abbrev main_call5_call0_v1 : Ref sig .tc := ⟨.hbm, 174, rfl⟩
abbrev main_call5_v4 : Ref sig .tc := ⟨.hbm, 175, rfl⟩
abbrev main_call5_v5 : Ref sig .tc := ⟨.hbm, 176, rfl⟩
abbrev main_call5_cst_2 : Ref sig .tc := ⟨.hbm, 177, rfl⟩
abbrev main_call5_v6 : Ref sig .tc := ⟨.hbm, 178, rfl⟩
abbrev main_call5_v7 : Ref sig .tc := ⟨.hbm, 179, rfl⟩
abbrev main_v116 : Ref sig .tc := ⟨.hbm, 180, rfl⟩

abbrev nD : Nat := 1
abbrev τ : Topo := Topo.v7x

variable {F : FTy → Type} [FloatOps F]
-- ==== Proof.KernelValue.lean ====
module

public import proofs.«01_k».proof.Proof.Gen.KernelIdeal.Value
public import Idealize.ShloMosaic.Lib.Pointwise
public import Idealize.ShloMosaic.Lib.Claim
public import Idealize.ShloMosaic.Lib.Pipeline.ValueKit
public import Idealize.ShloMosaic.Lib.Pipeline.ReadBack

/-! What the idealized kernel leaves in its result, as one formula over the five argument arrays: the three scratch
    arrays the first grid point fills, what the later points keep of them, and the block of the result each later point
    writes. One head's computation is stated once, over the head's number. -/

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.KernelIdeal.Heads

/-! ## The formulas -/

/-- The features of node `r` after head `h`'s projection, coordinate `d`: row `r` of `x` against column `d` of `w h`. -/
def feat (x : Vec Ideal S4096x256 .f32) (w : Vec Ideal S4x256x128 .f32) (h : Fin 4) (r : Fin 4096) (d : Fin 128) : EReal :=
  ∑ k : Fin 256, x (ix2 r k) * w (ix3 h k d)

/-- The features with eight more columns: the first of them is one, the others zero. -/
def wide (x : Vec Ideal S4096x256 .f32) (w : Vec Ideal S4x256x128 .f32) : Vec Ideal S4x4096x136 .bf16 := fun y =>
  (if e : (y 2).val < 128 then feat x w (y 0) (y 1) ⟨(y 2).val, e⟩ else if (y 2).val = 128 then 1 else 0 : EReal)

/-- The number the constant named `log2e` stands for. -/
abbrev log2e : EReal := Named.named (F := Ideal) (φ := .f32) κ "log2e" 0x3FB8AA3B#32

/-- The exponentials (base two) of the features against the columns of `a`, scaled by the named constant. -/
def expSelf (x : Vec Ideal S4096x256 .f32) (w : Vec Ideal S4x256x128 .f32) (a : Vec Ideal S4x128x8 .f32) : Vec Ideal S4x4096x8 .bf16 := fun y =>
  (Ideal.exp2 (∑ k : Fin 128, feat x w (y 0) (y 1) k * (a (ix3 (y 0) k (y 2)) * log2e)) : EReal)

/-- The exponentials (base two) of the rows of `a`, scaled by the named constant, against the features. -/
def expNeigh (x : Vec Ideal S4096x256 .f32) (w : Vec Ideal S4x256x128 .f32) (a : Vec Ideal S4x8x128 .f32) : Vec Ideal S4x8x4096 .bf16 := fun y =>
  (Ideal.exp2 (∑ k : Fin 128, a (ix3 (y 0) (y 1) k) * log2e * feat x w (y 0) (y 2) k) : EReal)

/-- The weight of neighbour `k` for node `r` in head `h`, before normalizing. -/
def weight (adj : Vec Ideal S4096x4096 .f32) (es : Vec Ideal S4x4096x8 .bf16) (en : Vec Ideal S4x8x4096 .bf16)
    (h : Fin 4) (r k : Fin 4096) : EReal :=
  max (es (ix3 h r 0) * en (ix3 h 0 k)) (es (ix3 h r 1) * en (ix3 h 1 k)) * adj (ix2 r k)

/-- The weighted mean of the neighbours' features: the weighted sum over column `d` divided by the one over column 128. -/
def mean (adj : Vec Ideal S4096x4096 .f32) (fw : Vec Ideal S4x4096x136 .bf16) (es : Vec Ideal S4x4096x8 .bf16) (en : Vec Ideal S4x8x4096 .bf16)
    (h : Fin 4) (r : Fin 4096) (d : Fin 128) : EReal :=
  Ideal.div (∑ k : Fin 4096, weight adj es en h r k * fw (ix3 h k ⟨d.val, by omega⟩))
    (∑ k : Fin 4096, weight adj es en h r k * fw (ix3 h k 128))

/-- The exponential linear unit as the kernel computes it. -/
def elu (q : EReal) : EReal := if 0 < q then q else Ideal.exp (min q 0) - 1

/-- The whole result: row `r`, head `j / 128`, coordinate `j % 128`. -/
def result (adj : Vec Ideal S4096x4096 .f32) (fw : Vec Ideal S4x4096x136 .bf16) (es : Vec Ideal S4x4096x8 .bf16) (en : Vec Ideal S4x8x4096 .bf16) :
    Vec Ideal S4096x512 .f32 := fun y =>
  elu (mean adj fw es en ⟨(y 1).val / 128, by have := (y 1).isLt; change _ < 512 at this; omega⟩ (y 0) ⟨(y 1).val % 128, by omega⟩)

/-! ## One head's operations at an index -/

/-- The column that counts: one in the first place, zero in the other seven. -/
theorem ones_at (r : Fin 4096) (l : Fin 8) : k0_pay5 (F := Ideal) (ix2 r l) = (if l.val = 0 then 1 else 0 : EReal) := by
  pointwise [k0_pay5]
  have e : ∀ l : Fin 8, (BitVec.setWidth 32 (IntOp.cmpi .eq (BitVec.ofNat 32 l.val) 0#32)).toInt = if l.val = 0 then 1 else 0 := by decide
  change (((BitVec.setWidth 32 (IntOp.cmpi .eq (BitVec.ofNat 32 l.val) 0#32)).toInt : ℝ) : EReal) = _
  rw [e l]
  split <;> simp

/-- A head's slice of the wide features, over a weight slice that is head `h`'s. -/
theorem wide_piece (x : Vec Ideal S4096x256 .f32) (w : Vec Ideal S4x256x128 .f32) (v : Vec Ideal S1x256x128 .f32) (h : Fin 4)
    (hv : ∀ k d, v (ix3 0 k d) = w (ix3 h k d)) (i : S1x4096x136.Idx) (y : S4x4096x136.Idx)
    (h0 : (y 0).val = h.val) (h1 : (y 1).val = (i 1).val) (h2 : (y 2).val = (i 2).val) : k0_pay7 x v i = wide x w y := by
  obtain rfl : y = ix3 h ⟨(i 1).val, (i 1).isLt⟩ ⟨(i 2).val, (i 2).isLt⟩ := by blk_ext
  idx_vars i
  pointwise [k0_pay7, k0_pay6, wide, feat, hv]
  by_cases e : (i2 : ℕ) < 128
  · simp only [e, ↓reduceDIte]
  · simp only [e, ↓reduceDIte]
    rw [ones_at]
    congr 1
    simp only [eq_iff_iff]
    omega

/-- A head's slice of the exponentials of the features, over weight and operand slices that are head `h`'s. -/
theorem self_piece (x : Vec Ideal S4096x256 .f32) (w : Vec Ideal S4x256x128 .f32) (v : Vec Ideal S1x256x128 .f32) (h : Fin 4)
    (a : Vec Ideal S4x128x8 .f32) (b : Vec Ideal S1x128x8 .f32)
    (hv : ∀ k d, v (ix3 0 k d) = w (ix3 h k d)) (hb : ∀ k l, b (ix3 0 k l) = a (ix3 h k l)) (i : S1x4096x8.Idx) (y : S4x4096x8.Idx)
    (h0 : (y 0).val = h.val) (h1 : (y 1).val = (i 1).val) (h2 : (y 2).val = (i 2).val) : k0_pay8 x v b i = expSelf x w a y := by
  obtain rfl : y = ix3 h ⟨(i 1).val, (i 1).isLt⟩ ⟨(i 2).val, (i 2).isLt⟩ := by blk_ext
  idx_vars i
  pointwise [k0_pay8, k0_pay6, expSelf, feat, hv, hb]
  rfl

/-- A head's slice of the exponentials of the neighbours' features, over weight and operand slices that are head `h`'s. -/
theorem neigh_piece (x : Vec Ideal S4096x256 .f32) (w : Vec Ideal S4x256x128 .f32) (v : Vec Ideal S1x256x128 .f32) (h : Fin 4)
    (a : Vec Ideal S4x8x128 .f32) (b : Vec Ideal S1x8x128 .f32)
    (hv : ∀ k d, v (ix3 0 k d) = w (ix3 h k d)) (hb : ∀ l k, b (ix3 0 l k) = a (ix3 h l k)) (i : S1x8x4096.Idx) (y : S4x8x4096.Idx)
    (h0 : (y 0).val = h.val) (h1 : (y 1).val = (i 1).val) (h2 : (y 2).val = (i 2).val) : k0_pay10 (k0_pay9 x v b) i = expNeigh x w a y := by
  obtain rfl : y = ix3 h ⟨(i 1).val, (i 1).isLt⟩ ⟨(i 2).val, (i 2).isLt⟩ := by blk_ext
  idx_vars i
  pointwise [k0_pay10, k0_pay9, k0_pay6, expNeigh, feat, hv, hb]
  rfl

/-- A head's block of the result, over loads that are head `h`'s slices of the scratch arrays at the block's rows. -/
theorem result_piece (adj : Vec Ideal S4096x4096 .f32) (fw : Vec Ideal S4x4096x136 .bf16) (es : Vec Ideal S4x4096x8 .bf16) (en : Vec Ideal S4x8x4096 .bf16)
    (b : Vec Ideal S512x4096 .f32) (p q : Vec Ideal S1x512x1 .bf16) (s t : Vec Ideal S1x1x4096 .bf16) (f : Vec Ideal S1x4096x136 .bf16)
    (h : Fin 4) (g : Fin 8) (i : S512x128.Idx) (y : S4096x512.Idx)
    (hb : ∀ (r : Fin 512) k, b (ix2 r k) = adj (ix2 ⟨g.val * 512 + r.val, by omega⟩ k))
    (hp : ∀ (r : Fin 512), p (ix3 0 r 0) = es (ix3 h ⟨g.val * 512 + r.val, by omega⟩ 0))
    (hq : ∀ (r : Fin 512), q (ix3 0 r 0) = es (ix3 h ⟨g.val * 512 + r.val, by omega⟩ 1))
    (hs : ∀ k, s (ix3 0 0 k) = en (ix3 h 0 k)) (ht : ∀ k, t (ix3 0 0 k) = en (ix3 h 1 k))
    (hf : ∀ k d, f (ix3 0 k d) = fw (ix3 h k d))
    (h0 : (y 0).val = g.val * 512 + (i 0).val) (h1 : (y 1).val = h.val * 128 + (i 1).val) : k0_pay22 b p q s t f i = result adj fw es en y := by
  have hi : (i 1).val < 128 := (i 1).isLt
  have e1 : (⟨(y 1).val / 128, by have := (y 1).isLt; change _ < 512 at this; omega⟩ : Fin 4) = h := Fin.ext (by simp only []; omega)
  have e2 : (⟨(y 1).val % 128, by omega⟩ : Fin 128) = i 1 := Fin.ext (by simp only []; omega)
  unfold result
  rw [e1, e2]
  idx_vars i
  idx_vars y
  have hr : i0.val < 512 := i0.isLt
  have e0 : y0 = ⟨g.val * 512 + i0.val, by clear h0; omega⟩ := Fin.ext h0
  rw [e0]
  pointwise [k0_pay22, k0_pay21, hb, hp, hq, hs, ht, hf]
  rfl

end Cert.KernelIdeal.Heads
-- ==== Proof.KernelRun.lean ====
module

public import proofs.«01_k».proof.Proof.KernelValue

/-! The idealized kernel's result array after the run is `Heads.result` of the adjacency and of the three scratch arrays,
    which hold the features and the two families of exponentials of the argument arrays at every grid point. -/

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.KernelIdeal.Heads

variable (m : (ℓ : Loc nD τ sig) → Buf (Elt Ideal) ℓ)

/-! ## Where the blocks lie -/

/-- The block of each window at each grid point. -/
theorem idx_val : ∀ t : Fin cfg0.N, (win0_0.index t 0 = t.val - 1 ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = t.val - 1 ∧ win0_5.index t 1 = 0) :=
  (by decide +kernel : ∀ t : Fin grid0.N, _)

/-- Where the row block's exponentials are loaded from, head by head, at the points after the first. -/
theorem off_val : ∀ t : Fin cfg0.N, 1 ≤ t.val → k0_off1 (grid0.coords t) = ![0, (t.val - 1) * 512, 0] ∧ k0_off2 (grid0.coords t) = ![0, (t.val - 1) * 512, 1]
    ∧ k0_off3 (grid0.coords t) = ![1, (t.val - 1) * 512, 0] ∧ k0_off4 (grid0.coords t) = ![1, (t.val - 1) * 512, 1]
    ∧ k0_off5 (grid0.coords t) = ![2, (t.val - 1) * 512, 0] ∧ k0_off6 (grid0.coords t) = ![2, (t.val - 1) * 512, 1]
    ∧ k0_off7 (grid0.coords t) = ![3, (t.val - 1) * 512, 0] ∧ k0_off8 (grid0.coords t) = ![3, (t.val - 1) * 512, 1] :=
  (by decide +kernel : ∀ t : Fin grid0.N, 1 ≤ t.val → _)

/-- The features' block is the whole array. -/
theorem block_x (c : Dev nD) (t : Fin cfg0.N) : iblk m c 1 t = m ((c : Thread nD τ).loc main_arg0) := by
  blk_ext! [iblk, V, idx_val t]

/-- The weights' block is the whole array. -/
theorem block_w (c : Dev nD) (t : Fin cfg0.N) : iblk m c 2 t = m ((c : Thread nD τ).loc main_arg2) := by
  blk_ext! [iblk, V, idx_val t]

/-- The block of the self columns is the whole array the host made. -/
theorem block_self (c : Dev nD) (t : Fin cfg0.N) : iblk m c 3 t = V m c main_v3 := by
  blk_ext! [iblk, idx_val t]

/-- The block of the neighbour rows is the whole array the host made. -/
theorem block_neigh (c : Dev nD) (t : Fin cfg0.N) : iblk m c 4 t = V m c main_v8 := by
  blk_ext! [iblk, idx_val t]

/-! ## The host's two operands -/

set_option maxHeartbeats 4000000 in
/-- The host joins the self vectors, their multiple and zeros along the last axis. -/
theorem self_operand (c : Dev nD) : V m c main_v3 = concatenate S4x128x8 2 [⟨S4x128x1, m ((c : Thread nD τ).loc main_arg3)⟩,
    ⟨S4x128x1, mulf (broadcastInDim S4x128x1 ![] bcast_S_S4x128x1 (constant (F := Ideal) S_ .f32 0x3E4CCCCD#32)) (m ((c : Thread nD τ).loc main_arg3) : FVec Ideal S4x128x1 .f32)⟩,
    ⟨S4x128x6, broadcastInDim S4x128x6 ![] bcast_S_S4x128x6 (constant (F := Ideal) S_ .f32 0x00000000#32)⟩] concatenates_S4x128x1_S4x128x1_S4x128x6_S4x128x8_d2 := by
  unfold V
  after_results
  rfl

set_option maxHeartbeats 4000000 in
/-- The host joins the transposed neighbour vectors, their multiple and zeros along the middle axis. -/
theorem neigh_operand (c : Dev nD) : V m c main_v8 = concatenate S4x8x128 1 [⟨S4x1x128, transpose S4x1x128 [0, 2, 1] (m ((c : Thread nD τ).loc main_arg4)) transposes_S4x128x1_S4x1x128_0_2_1⟩,
    ⟨S4x1x128, mulf (broadcastInDim S4x1x128 ![] bcast_S_S4x1x128 (constant (F := Ideal) S_ .f32 0x3E4CCCCD#32)) (transpose S4x1x128 [0, 2, 1] (m ((c : Thread nD τ).loc main_arg4)) transposes_S4x128x1_S4x1x128_0_2_1 : FVec Ideal S4x1x128 .f32)⟩,
    ⟨S4x6x128, broadcastInDim S4x6x128 ![] bcast_S_S4x6x128 (constant (F := Ideal) S_ .f32 0x00000000#32)⟩] concatenates_S4x1x128_S4x1x128_S4x6x128_S4x8x128_d1 := by
  unfold V
  after_results
  rfl

/-- The first self column is the self vector. -/
theorem self_zero (c : Dev nD) (h : Fin 4) (k : Fin 128) :
    (V m c main_v3 : Vec Ideal S4x128x8 .f32) (ix3 h k 0) = m ((c : Thread nD τ).loc main_arg3) (ix3 h k 0) := by
  rw [self_operand]
  pointwise

/-- The second self column is the slope times the self vector. -/
theorem self_one (c : Dev nD) (h : Fin 4) (k : Fin 128) :
    (V m c main_v3 : Vec Ideal S4x128x8 .f32) (ix3 h k 1) = (Ideal.ofBits .f32 0x3E4CCCCD#32 * m ((c : Thread nD τ).loc main_arg3) (ix3 h k 0) : EReal) := by
  rw [self_operand]
  pointwise

/-- The first neighbour row is the neighbour vector. -/
theorem neigh_zero (c : Dev nD) (h : Fin 4) (k : Fin 128) :
    (V m c main_v8 : Vec Ideal S4x8x128 .f32) (ix3 h 0 k) = m ((c : Thread nD τ).loc main_arg4) (ix3 h k 0) := by
  rw [neigh_operand]
  pointwise

/-- The second neighbour row is the slope times the neighbour vector. -/
theorem neigh_one (c : Dev nD) (h : Fin 4) (k : Fin 128) :
    (V m c main_v8 : Vec Ideal S4x8x128 .f32) (ix3 h 1 k) = (Ideal.ofBits .f32 0x3E4CCCCD#32 * m ((c : Thread nD τ).loc main_arg4) (ix3 h k 0) : EReal) := by
  rw [neigh_operand]
  pointwise

/-! ## The scratch arrays -/

/-- What the first point leaves in the three scratch arrays. -/
theorem first (c : Dev nD) (t : Fin cfg0.N) (h0 : t.val % 9 = 0) (h1 : ¬1 ≤ t.val) :
    (outsAt0 m c t.val t.isLt).2 = (wide (m ((c : Thread nD τ).loc main_arg0)) (m ((c : Thread nD τ).loc main_arg2)),
      expSelf (m ((c : Thread nD τ).loc main_arg0)) (m ((c : Thread nD τ).loc main_arg2)) (V m c main_v3),
      expNeigh (m ((c : Thread nD τ).loc main_arg0)) (m ((c : Thread nD τ).loc main_arg2)) (V m c main_v8)) := by
  refine Prod.ext ?_ (Prod.ext ?_ ?_)
  · funext y
    rw [outsAt0_A m c t h0 h1]
    frame_out
    rw [block_x, block_w]
    canon_tiles y h
    · refine wide_piece _ _ _ 3 (fun k d => by pointwise) _ _ ?_ ?_ ?_ <;> omega
    · refine wide_piece _ _ _ 2 (fun k d => by pointwise) _ _ ?_ ?_ ?_ <;> omega
    · refine wide_piece _ _ _ 1 (fun k d => by pointwise) _ _ ?_ ?_ ?_ <;> omega
    · refine wide_piece _ _ _ 0 (fun k d => by pointwise) _ _ ?_ ?_ ?_ <;> omega
  · funext y
    rw [outsAt0_A m c t h0 h1]
    frame_out
    rw [block_x, block_w, block_self]
    canon_tiles y h
    · refine self_piece _ _ _ 3 _ _ (fun k d => by pointwise) (fun k l => by pointwise) _ _ ?_ ?_ ?_ <;> omega
    · refine self_piece _ _ _ 2 _ _ (fun k d => by pointwise) (fun k l => by pointwise) _ _ ?_ ?_ ?_ <;> omega
    · refine self_piece _ _ _ 1 _ _ (fun k d => by pointwise) (fun k l => by pointwise) _ _ ?_ ?_ ?_ <;> omega
    · refine self_piece _ _ _ 0 _ _ (fun k d => by pointwise) (fun k l => by pointwise) _ _ ?_ ?_ ?_ <;> omega
  · funext y
    rw [outsAt0_A m c t h0 h1]
    frame_out
    rw [block_x, block_w, block_neigh]
    canon_tiles y h
    · refine neigh_piece _ _ _ 3 _ _ (fun k d => by pointwise) (fun l k => by pointwise) _ _ ?_ ?_ ?_ <;> omega
    · refine neigh_piece _ _ _ 2 _ _ (fun k d => by pointwise) (fun l k => by pointwise) _ _ ?_ ?_ ?_ <;> omega
    · refine neigh_piece _ _ _ 1 _ _ (fun k d => by pointwise) (fun l k => by pointwise) _ _ ?_ ?_ ?_ <;> omega
    · refine neigh_piece _ _ _ 0 _ _ (fun k d => by pointwise) (fun l k => by pointwise) _ _ ?_ ?_ ?_ <;> omega

/-- Every point leaves in the scratch arrays what the first left: the later ones only read them. -/
theorem scratch (c : Dev nD) (n : ℕ) (hn : n < cfg0.N) :
    (outsAt0 m c n hn).2 = (wide (m ((c : Thread nD τ).loc main_arg0)) (m ((c : Thread nD τ).loc main_arg2)),
      expSelf (m ((c : Thread nD τ).loc main_arg0)) (m ((c : Thread nD τ).loc main_arg2)) (V m c main_v3),
      expNeigh (m ((c : Thread nD τ).loc main_arg0)) (m ((c : Thread nD τ).loc main_arg2)) (V m c main_v8)) := by
  have h9 : n < 9 := hn
  induction n with
  | zero => exact first m c ⟨0, hn⟩ rfl (by simp)
  | succ k ih =>
    have e := outsAt0_B m c ⟨k + 1, hn⟩ (by simp only []; omega) (by simp only []; omega)
    refine (congrArg Prod.snd e).trans (Eq.trans ?_ (ih (by omega) (by omega)))
    rfl

/-! ## The result array -/

/-- The result array after the run. -/
theorem final (c : Dev nD) : (dats m 0 c).arrAt 5 cfg0.N = result (m ((c : Thread nD τ).loc main_arg1))
      (wide (m ((c : Thread nD τ).loc main_arg0)) (m ((c : Thread nD τ).loc main_arg2)))
      (expSelf (m ((c : Thread nD τ).loc main_arg0)) (m ((c : Thread nD τ).loc main_arg2)) (V m c main_v3))
      (expNeigh (m ((c : Thread nD τ).loc main_arg0)) (m ((c : Thread nD τ).loc main_arg2)) (V m c main_v8)) := by
  refine (dats m 0 c).arrAt_eq_of_covers 5 _ (by decide +kernel) fun t hf y => ?_
  have pt : 1 ≤ t.val := (by decide +kernel : ∀ t : Fin grid0.N, (cfg0.win 5).flush t = true → 1 ≤ t.val) t hf
  have lt9 : t.val < 9 := t.isLt
  obtain ⟨g, eg⟩ : ∃ g : Fin 8, g.val = t.val - 1 := ⟨⟨t.val - 1, by omega⟩, rfl⟩
  obtain ⟨o1, o2, o3, o4, o5, o6, o7, o8⟩ := off_val t pt
  blk_simp
  rw [after0_5, outsAt0_B m c t (by omega) pt]
  frame_out
  simp only [read_unread_whole, scratch]
  have eb : ∀ (r : Fin 512) (k : Fin 4096), iblk m c 0 t (ix2 r k) = m ((c : Thread nD τ).loc main_arg1) (ix2 ⟨g.val * 512 + r.val, by omega⟩ k) := fun r k => by
    blk_ext [iblk, V, idx_val t, eg]
  canon_tiles y h
  · exact result_piece _ _ _ _ _ _ _ _ _ _ 3 g _ _ eb (fun r => by pointwise; blk_ext [o7, eg]) (fun r => by pointwise; blk_ext [o8, eg])
      (fun k => by pointwise) (fun k => by pointwise) (fun k d => by pointwise) (by blk_simp [idx_val t, eg]; omega) (by blk_simp [idx_val t]; omega)
  · exact result_piece _ _ _ _ _ _ _ _ _ _ 2 g _ _ eb (fun r => by pointwise; blk_ext [o5, eg]) (fun r => by pointwise; blk_ext [o6, eg])
      (fun k => by pointwise) (fun k => by pointwise) (fun k d => by pointwise) (by blk_simp [idx_val t, eg]; omega) (by blk_simp [idx_val t]; omega)
  · exact result_piece _ _ _ _ _ _ _ _ _ _ 1 g _ _ eb (fun r => by pointwise; blk_ext [o3, eg]) (fun r => by pointwise; blk_ext [o4, eg])
      (fun k => by pointwise) (fun k => by pointwise) (fun k d => by pointwise) (by blk_simp [idx_val t, eg]; omega) (by blk_simp [idx_val t]; omega)
  · exact result_piece _ _ _ _ _ _ _ _ _ _ 0 g _ _ eb (fun r => by pointwise; blk_ext [o1, eg]) (fun r => by pointwise; blk_ext [o2, eg])
      (fun k => by pointwise) (fun k => by pointwise) (fun k d => by pointwise) (by blk_simp [idx_val t, eg]; omega) (by blk_simp [idx_val t]; omega)

end Cert.KernelIdeal.Heads
-- ==== Proof.Given.lean ====
module

public import proofs.«01_k».proof.Defs
public import Idealize.ShloMosaic.Lib.Pointwise
public import Idealize.ShloMosaic.Lib.ReduceAll

/-! What the precondition says of the argument arrays: the features, the weights and the two families of vectors are
    real, every entry of the adjacency is zero or one, and every node has a neighbour. -/

@[expose] public section

set_option maxRecDepth 16384

noncomputable section

open Idealize.ShloMosaic

namespace Cert.Given

open Cert.Pre_graph

/-- The pattern of infinity stands for infinity. -/
theorem bits_inf : Ideal.ofBits .f32 0x7F800000#32 = (⊤ : EReal) := by simp [Ideal.ofBits, Ideal.ieee]

/-- An extended real of magnitude below infinity is a real. -/
theorem real_of_lt (v : EReal) (h : Ideal.cmp .olt (max v (-v)) (Ideal.ofBits .f32 0x7F800000#32) = 1#1) : ∃ r : ℝ, v = r := by
  rw [bits_inf] at h
  induction v with
  | bot => simp [Ideal.cmp] at h
  | top => simp [Ideal.cmp] at h
  | coe r => exact ⟨r, rfl⟩

/-- Two extended reals that compare equal are equal. -/
theorem eq_of_cmp (u v : EReal) (h : Ideal.cmp .oeq u v = 1#1) : u = v := by
  by_contra e
  simp [Ideal.cmp, e] at h

/-- A left fold by `or` over one-bit words that came out one started at one or met a one. -/
theorem fold_or {ι : Type} (f : ι → BitVec 1) : ∀ (l : List ι) (init : BitVec 1),
    l.foldl (fun r n => IntOp.ori r (f n)) init = 1#1 → init = 1#1 ∨ ∃ n ∈ l, f n = 1#1
  | [], init, h => Or.inl h
  | a :: l, init, h => by
    rcases fold_or f l _ h with h | ⟨n, hn, e⟩
    · have : ∀ p q : BitVec 1, IntOp.ori p q = 1#1 → p = 1#1 ∨ q = 1#1 := by decide
      rcases this _ _ h with h | h
      · exact Or.inl h
      · exact Or.inr ⟨a, List.mem_cons_self .., h⟩
    · exact Or.inr ⟨n, List.mem_cons_of_mem _ hn, e⟩

/-- A reduction by `or` along the last axis that is one at a row, from zero, met a one in that row. -/
theorem row_or [Facts] (p : IVec S4096x4096 1) (r : Fin 4096)
    (h : Host.reduce IntOp.ori p (constantI S_ 1 0#1) Facts.reducesTo_S4096x4096_S4096_d1 Facts.h_S_ (ix1 r) = 1#1) : ∃ k : Fin 4096, p (ix2 r k) = 1#1 := by
  rw [Host.reduce_eq_foldl] at h
  rcases fold_or _ _ _ h with h | ⟨i, hi, e⟩
  · exact absurd (show (0#1 : BitVec 1) = 1#1 from h) (by decide)
  · rw [List.mem_filter] at hi
    have hi := of_decide_eq_true hi.2
    have h0 : i 0 = r := Fin.ext (congrArg Fin.val (congrFun hi 0))
    subst h0
    exact ⟨i 1, (congrArg p (eq_ix2 i)).symm.trans e⟩

/-- The precondition, element by element. -/
theorem decoded (x : FVec Ideal S4096x256 .f32) (adj : FVec Ideal S4096x4096 .f32) (w : FVec Ideal S4x256x128 .f32) (a b : FVec Ideal S4x128x1 .f32)
    [Facts] (e : fn (F := Ideal) x adj w a b = fun _ => 1#1) :
    (∀ i, ∃ r : ℝ, x i = r) ∧ (∀ i, ∃ r : ℝ, w i = r) ∧ (∀ i, ∃ r : ℝ, a i = r) ∧ (∀ i, ∃ r : ℝ, b i = r)
      ∧ (∀ i, adj i = (0 : EReal) ∨ adj i = (1 : EReal)) ∧ ∀ r : Fin 4096, ∃ k : Fin 4096, adj (ix2 r k) = (1 : EReal) := by
  have e := congrFun e (fun k => k.elim0)
  dsimp only [fn, fn_part1] at e
  simp only [andi, IntOp.andi_eq_one] at e
  obtain ⟨⟨⟨⟨⟨ex, ew⟩, ea⟩, eb⟩, eadj⟩, en⟩ := e
  refine ⟨fun i => real_of_lt _ (Host.reduce_andi_all _ _ _ _ _ ex i), fun i => real_of_lt _ (Host.reduce_andi_all _ _ _ _ _ ew i),
    fun i => real_of_lt _ (Host.reduce_andi_all _ _ _ _ _ ea i), fun i => real_of_lt _ (Host.reduce_andi_all _ _ _ _ _ eb i), fun i => ?_, fun r => ?_⟩
  · have h := Host.reduce_andi_all _ _ _ _ _ eadj i
    have : ∀ p q : BitVec 1, IntOp.ori p q = 1#1 → p = 1#1 ∨ q = 1#1 := by decide
    rcases this _ _ h with h | h
    · exact Or.inl ((eq_of_cmp _ _ h).trans Ideal.ofBits_zero_f32)
    · exact Or.inr ((eq_of_cmp _ _ h).trans Ideal.ofBits_one_f32)
  · obtain ⟨k, h⟩ := row_or _ r (Host.reduce_andi_all _ _ _ _ _ en (ix1 r))
    exact ⟨k, (eq_of_cmp _ _ h).trans Ideal.ofBits_one_f32⟩

end Cert.Given
-- ==== Proof.ReferenceValue.lean ====
module

public import proofs.«01_k».proof.Proof.Gen.ReferenceIdeal.Run
public import Idealize.ShloMosaic.Lib.Pointwise
public import Idealize.ShloMosaic.Lib.Claim

/-! What the idealized reference leaves in its result, as one formula over the five argument arrays. One head's
    computation is stated once, over the head's weight matrix and its two vectors. -/

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.ReferenceIdeal.Heads

/-! ## One head, array by array -/

/-- The projected features. -/
def featV (x : FVec Ideal S4096x256 .f32) (w : FVec Ideal S256x128 .f32) : FVec Ideal S4096x128 .f32 :=
  Host.dotGeneral dot_S4096x256_S256x128_S4096x128_1_0_0_1_n_n none x w

/-- The self term of row `i` plus the neighbour term of row `j`. -/
def logitV (f : FVec Ideal S4096x128 .f32) (a b : FVec Ideal S128x1 .f32) : FVec Ideal S4096x4096 .f32 :=
  addf (broadcastInDim S4096x4096 ![0, 1] bcast_S4096x1_S4096x4096_0_1 (Host.dotGeneral dot_S4096x128_S128x1_S4096x1_1_0_0_1_n_n none f a))
    (broadcastInDim S4096x4096 ![0, 1] bcast_S1x4096_S4096x4096_0_1 (transpose S1x4096 [1, 0] (Host.dotGeneral dot_S4096x128_S128x1_S4096x1_1_0_0_1_n_n none f b) transposes_S4096x1_S1x4096_1_0))

/-- The mask: zero on an edge, minus infinity elsewhere. -/
def maskV (adj : FVec Ideal S4096x4096 .f32) : FVec Ideal S4096x4096 .f32 :=
  select (cmpf .ogt adj (broadcastInDim S4096x4096 ![] bcast_S_S4096x4096 (constant S_ .f32 0x00000000#32)))
    (broadcastInDim S4096x4096 ![] bcast_S_S4096x4096 (constant S_ .f32 0x00000000#32)) (broadcastInDim S4096x4096 ![] bcast_S_S4096x4096 (constant S_ .f32 0xFF800000#32))

/-- The leaky rectified logits under the mask. -/
def scoreV (z u : FVec Ideal S4096x4096 .f32) : FVec Ideal S4096x4096 .f32 :=
  addf (select (cmpf .oge z (broadcastInDim S4096x4096 ![] bcast_S_S4096x4096 (constant S_ .f32 0x00000000#32))) z
    (mulf (broadcastInDim S4096x4096 ![] bcast_S_S4096x4096 (id (constant S_ .f32 0x3E4CCCCD#32))) z)) (id u)

/-- The exponentials of the scores less their row's greatest. -/
def expV (s : FVec Ideal S4096x4096 .f32) : FVec Ideal S4096x4096 .f32 :=
  Host.exp (subf s (broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32))
      (Host.reduce FloatOps.maximumf s (constant S_ .f32 0xFF800000#32) reducesTo_S4096x4096_S4096_d1 h_S_)))))

/-- The features mixed with the normalized exponentials. -/
def mixV (e : FVec Ideal S4096x4096 .f32) (f : FVec Ideal S4096x128 .f32) : FVec Ideal S4096x128 .f32 :=
  Host.dotGeneral dot_S4096x4096_S4096x128_S4096x128_1_0_0_1_n_n none
    (Host.divf e (broadcastInDim S4096x4096 ![0, 1] bcast_S4096x1_S4096x4096_0_1 (broadcastInDim S4096x1 ![0] bcast_S4096_S4096x1_0
      (Host.reduceAdd e (constant S_ .f32 0x00000000#32) reducesTo_S4096x4096_S4096_d1 h_S_)))) f

/-- One head from its weight matrix and its two vectors. -/
def headV (x : FVec Ideal S4096x256 .f32) (adj : FVec Ideal S4096x4096 .f32) (w : FVec Ideal S256x128 .f32) (a b : FVec Ideal S128x1 .f32) : FVec Ideal S4096x128 .f32 :=
  mixV (expV (scoreV (logitV (featV x w) a b) (maskV adj))) (featV x w)

/-- The exponential linear unit as the reference computes it. -/
def eluV (y : FVec Ideal S4096x512 .f32) : FVec Ideal S4096x512 .f32 :=
  select (cmpf .ogt y (broadcastInDim S4096x512 ![] bcast_S_S4096x512 (constant S_ .f32 0x00000000#32))) y
    (mulf (broadcastInDim S4096x512 ![] bcast_S_S4096x512 (constant S_ .f32 0x3F800000#32)) (Host.expm1 (select (cmpf .ogt y (broadcastInDim S4096x512 ![] bcast_S_S4096x512 (constant S_ .f32 0x00000000#32)))
      (broadcastInDim S4096x512 ![] bcast_S_S4096x512 (id (constant S_ .f32 0x00000000#32))) y)))

/-! ## The same at an index -/

/-- The greatest of a row, from minus infinity. -/
theorem row_max (z : FVec Ideal S4096x4096 .f32) (i : Fin 4096) :
    (Host.reduce FloatOps.maximumf z (constant S_ .f32 0xFF800000#32) reducesTo_S4096x4096_S4096_d1 h_S_ : FVec Ideal S4096 .f32) (ix1 i)
      = Finset.univ.fold max (Ideal.ofBits .f32 0xFF800000#32) (fun k : Fin 4096 => z (ix2 i k)) := by
  have h : S4096x4096.Reduces [1] S4096 := by decide
  have e : ∀ k : Fin 4096, h.lift (ix1 i) k = ix2 i k := fun k => by
    funext a
    refine Fin.ext ?_
    refine (h.lift_val (ix1 i) k a).trans ?_
    match a with
    | ⟨0, _⟩ => rfl
    | ⟨1, _⟩ => rfl
  refine (Host.reduce_eq_fold_single _ _ _ _ h _ _).trans ?_
  exact Finset.fold_congr fun k _ => congrArg z (e k)

/-- The slope of the leaky rectifier on negative logits. -/
abbrev slope : EReal := Ideal.ofBits .f32 0x3E4CCCCD#32

/-- The value of the mask off the edges, and the start of a row's greatest. -/
abbrev low : EReal := Ideal.ofBits .f32 0xFF800000#32

/-- The projected features: a row of `x` against a column of `w`. -/
theorem featV_at (x : FVec Ideal S4096x256 .f32) (w : FVec Ideal S256x128 .f32) (r : Fin 4096) (d : Fin 128) :
    featV x w (ix2 r d) = (∑ k, x (ix2 r k) * w (ix2 k d) : EReal) := by
  pointwise [featV]

/-- A logit: the self term of its row plus the neighbour term of its column. -/
theorem logitV_at (f : FVec Ideal S4096x128 .f32) (a b : FVec Ideal S128x1 .f32) (i j : Fin 4096) :
    logitV f a b (ix2 i j) = (∑ k, f (ix2 i k) * a (ix2 k 0) + ∑ k, f (ix2 j k) * b (ix2 k 0) : EReal) := by
  pointwise [logitV]

/-- The mask at an entry of the adjacency. -/
theorem maskV_at (adj : FVec Ideal S4096x4096 .f32) (i j : Fin 4096) :
    maskV adj (ix2 i j) = (if 0 < adj (ix2 i j) then 0 else low : EReal) := by
  pointwise [maskV]

/-- A score: the logit or its multiple by the slope, plus the mask. -/
theorem scoreV_at (z u : FVec Ideal S4096x4096 .f32) (i j : Fin 4096) :
    scoreV z u (ix2 i j) = ((if 0 ≤ z (ix2 i j) then z (ix2 i j) else slope * z (ix2 i j)) + u (ix2 i j) : EReal) := by
  pointwise [scoreV]
  rfl

/-- An exponential shifted by any row array. -/
theorem shift_at (z : FVec Ideal S4096x4096 .f32) (q : FVec Ideal S4096 .f32) (i j : Fin 4096) :
    Host.exp (subf z (broadcastInDim S4096x4096 ![0, 1] bcast_S4096x1_S4096x4096_0_1 (broadcastInDim S4096x1 ![0] bcast_S4096_S4096x1_0
      (maximumf (broadcastInDim S4096 ![] bcast_S_S4096 (constant S_ .f32 0xFF800000#32)) q)))) (ix2 i j)
      = Ideal.exp (z (ix2 i j) - max low (q (ix1 i))) := by
  pointwise

/-- An exponential of a score less its row's greatest. -/
theorem expV_at (z : FVec Ideal S4096x4096 .f32) (i j : Fin 4096) :
    expV z (ix2 i j) = Ideal.exp (z (ix2 i j) - max low (Finset.univ.fold max low (fun k : Fin 4096 => z (ix2 i k)))) := by
  refine (shift_at z _ i j).trans ?_
  rw [row_max]

/-- The mixed features: each exponential divided by its row's sum, against a column of the features. -/
theorem mixV_at (e : FVec Ideal S4096x4096 .f32) (f : FVec Ideal S4096x128 .f32) (i : Fin 4096) (d : Fin 128) :
    mixV e f (ix2 i d) = (∑ k, Ideal.div (e (ix2 i k)) (∑ l, e (ix2 i l)) * f (ix2 k d) : EReal) := by
  pointwise [mixV]

/-- The exponential linear unit at an entry. -/
theorem eluV_at (y : FVec Ideal S4096x512 .f32) (i : Fin 4096) (d : Fin 512) :
    eluV y (ix2 i d) = (if 0 < y (ix2 i d) then y (ix2 i d) else Ideal.exp (if 0 < y (ix2 i d) then 0 else y (ix2 i d)) - 1 : EReal) := by
  pointwise [eluV]
  have e : id (constant (F := Ideal) S_ .f32 0x00000000#32) ix0 = (0 : EReal) := Ideal.ofBits_zero_f32
  rw [e]

/-! ## The whole result -/

/-- Four arrays joined along the columns, read at column `128 h + d`: the `h`-th at column `d`. -/
theorem join_at (y : Fin 4 → FVec Ideal S4096x128 .f32) (i : Fin 4096) (j : Fin 512) :
    concatenate S4096x512 1 [⟨S4096x128, y 0⟩, ⟨S4096x128, y 1⟩, ⟨S4096x128, y 2⟩, ⟨S4096x128, y 3⟩] concatenates_S4096x128_S4096x128_S4096x128_S4096x128_S4096x512_d1 (ix2 i j)
      = y ⟨j.val / 128, by omega⟩ (ix2 i ⟨j.val % 128, by omega⟩) := by
  pointwise
  have at_ (h : Fin 4) (e : Fin 128) (eh : j.val = 128 * h.val + e.val) :
      y ⟨j.val / 128, by omega⟩ (ix2 i ⟨j.val % 128, by omega⟩) = y h (ix2 i e) := by
    have e0 : (⟨j.val / 128, by omega⟩ : Fin 4) = h := Fin.ext (by show j.val / 128 = h.val; omega)
    have e1 : (⟨j.val % 128, by omega⟩ : Fin 128) = e := Fin.ext (by show j.val % 128 = e.val; omega)
    rw [e0, e1]
  by_cases h0 : j.val < 128
  · rw [dif_pos h0]
    exact (at_ 0 ⟨_, h0⟩ (by show j.val = 128 * 0 + j.val; omega)).symm
  rw [dif_neg h0]
  by_cases h1 : j.val - 128 < 128
  · rw [dif_pos h1]
    exact (at_ 1 ⟨_, h1⟩ (by show j.val = 128 * 1 + (j.val - 128); omega)).symm
  rw [dif_neg h1]
  by_cases h2 : j.val - 128 - 128 < 128
  · rw [dif_pos h2]
    exact (at_ 2 ⟨_, h2⟩ (by show j.val = 128 * 2 + (j.val - 128 - 128); omega)).symm
  rw [dif_neg h2]
  exact (at_ 3 ⟨_, by omega⟩ (by show j.val = 128 * 3 + (j.val - 128 - 128 - 128); omega)).symm

/-- A head's weight matrix lies inside the family. -/
theorem slices_weights (h : Fin 4) : S4x256x128.Slices ![h.val, 0, 0] S1x256x128 := by
  revert h
  decide

/-- A head's vector lies inside the family. -/
theorem slices_vector (h : Fin 4) : S4x128x1.Slices ![h.val, 0, 0] S1x128x1 := by
  revert h
  decide

/-- Head `h`'s weight matrix, cut out of the family. -/
def weights (w : FVec Ideal S4x256x128 .f32) (h : Fin 4) : FVec Ideal S256x128 .f32 :=
  shapeCast S256x128 (extractStridedSlice S1x256x128 ![h.val, 0, 0] w (slices_weights h)) shapeCasts_S1x256x128_S256x128

/-- Head `h`'s vector, cut out of a family. -/
def vector (a : FVec Ideal S4x128x1 .f32) (h : Fin 4) : FVec Ideal S128x1 .f32 :=
  shapeCast S128x1 (extractStridedSlice S1x128x1 ![h.val, 0, 0] a (slices_vector h)) shapeCasts_S1x128x1_S128x1

/-- A weight of head `h`. -/
theorem weights_at (w : FVec Ideal S4x256x128 .f32) (h : Fin 4) (k : Fin 256) (d : Fin 128) : weights w h (ix2 k d) = w (ix3 h k d) := by
  pointwise [weights]

/-- An entry of head `h`'s vector. -/
theorem vector_at (a : FVec Ideal S4x128x1 .f32) (h : Fin 4) (k : Fin 128) : vector a h (ix2 k 0) = a (ix3 h k 0) := by
  pointwise [vector]

/-- Head `h` of the reference on the whole arguments. -/
def headOf (x : FVec Ideal S4096x256 .f32) (adj : FVec Ideal S4096x4096 .f32) (w : FVec Ideal S4x256x128 .f32) (a b : FVec Ideal S4x128x1 .f32) (h : Fin 4) :
    FVec Ideal S4096x128 .f32 := headV x adj (weights w h) (vector a h) (vector b h)

/-- The reference's whole result: the four heads joined, under the exponential linear unit. -/
def resultV (x : FVec Ideal S4096x256 .f32) (adj : FVec Ideal S4096x4096 .f32) (w : FVec Ideal S4x256x128 .f32) (a b : FVec Ideal S4x128x1 .f32) :
    FVec Ideal S4096x512 .f32 :=
  eluV (concatenate S4096x512 1 [⟨S4096x128, headOf x adj w a b 0⟩, ⟨S4096x128, headOf x adj w a b 1⟩, ⟨S4096x128, headOf x adj w a b 2⟩, ⟨S4096x128, headOf x adj w a b 3⟩]
    concatenates_S4096x128_S4096x128_S4096x128_S4096x128_S4096x512_d1)

/-- The four heads joined are what the reference joins. -/
theorem joined (V0 : Valuation τ sig (Elt Ideal)) :
    eluV (res_main_v115 V0) = resultV (V0 (Proc.devRef .tc main_arg0)) (V0 (Proc.devRef .tc main_arg1)) (V0 (Proc.devRef .tc main_arg2))
      (V0 (Proc.devRef .tc main_arg3)) (V0 (Proc.devRef .tc main_arg4)) := rfl

/-- The exponential linear unit of a single value as the reference computes it. -/
def elu (y : EReal) : EReal := if 0 < y then y else Ideal.exp (if 0 < y then 0 else y) - 1

/-- A result of the reference: its head's value under the exponential linear unit. -/
theorem resultV_at (x : FVec Ideal S4096x256 .f32) (adj : FVec Ideal S4096x4096 .f32) (w : FVec Ideal S4x256x128 .f32) (a b : FVec Ideal S4x128x1 .f32) (i : Fin 4096) (j : Fin 512) :
    resultV x adj w a b (ix2 i j) = elu (headOf x adj w a b ⟨j.val / 128, by omega⟩ (ix2 i ⟨j.val % 128, by omega⟩)) := by
  refine (eluV_at _ i j).trans ?_
  rw [join_at (headOf x adj w a b) i j]
  rfl

end Cert.ReferenceIdeal.Heads
-- ==== Proof.Rows.lean ====
module

public import Idealize.ShloMosaic.Lib.Claim
public import Idealize.ShloMosaic.Lib.Pointwise

/-! The arithmetic of one row, over the reals inside the extended reals: both programs' weighted means of a row are the
    one quotient of real sums. -/

@[expose] public section

noncomputable section

open Idealize.ShloMosaic

namespace Cert.Rows

/-- A sum of reals taken in the extended reals is the sum taken in the reals. -/
theorem sum_coe {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- A contraction of reals taken in the extended reals is the contraction taken in the reals. -/
theorem dot_coe {n : ℕ} {x y : Fin n → EReal} {f g : Fin n → ℝ} (hx : ∀ k, x k = f k) (hy : ∀ k, y k = g k) :
    (∑ k, x k * y k) = ((∑ k, f k * g k : ℝ) : EReal) := by
  rw [← sum_coe]
  exact Finset.sum_congr rfl fun k _ => by rw [hx k, hy k, EReal.coe_mul]

/-- Two to a real multiplied by the reciprocal of the logarithm of two is its exponential. -/
theorem exp2_scaled (r : ℝ) : Ideal.exp2 ((r * (Real.log 2)⁻¹ : ℝ) : EReal) = (Real.exp r : ℝ) := by
  have hl : Real.log 2 ≠ 0 := (Real.log_pos (by norm_num)).ne'
  rw [Ideal.exp2_coe]
  refine congrArg _ ?_
  show (2 : ℝ) ^ (r * (Real.log 2)⁻¹) = Real.exp r
  rw [Real.rpow_def_of_pos (by norm_num), mul_comm r, ← mul_assoc, mul_inv_cancel₀ hl, one_mul]

/-- The slope's bits name a real between zero and one. -/
theorem slope_real : ∃ c : ℝ, 0 < c ∧ c < 1 ∧ Ideal.ofBits .f32 0x3E4CCCCD#32 = (c : EReal) := by
  refine ⟨_, ?_, ?_, by simp [Ideal.ofBits, Ideal.ieee, -EReal.coe_mul]; rfl⟩ <;> norm_num

/-- The leaky rectifier. -/
def leaky (c z : ℝ) : ℝ := if 0 ≤ z then z else c * z

/-- With a slope between zero and one the leaky rectifier is the greater of its two branches. -/
theorem leaky_eq_max {c : ℝ} (h0 : 0 < c) (h1 : c < 1) (z : ℝ) : leaky c z = max z (c * z) := by
  unfold leaky
  split_ifs with h
  · exact (max_eq_left (by nlinarith)).symm
  · exact (max_eq_right (by nlinarith)).symm

/-- The greater of the two products of exponentials is the exponential of the leaky rectified sum. -/
theorem max_exp {c : ℝ} (h0 : 0 < c) (h1 : c < 1) (s t : ℝ) :
    max ((Real.exp s : EReal) * (Real.exp t : EReal)) ((Real.exp (c * s) : EReal) * (Real.exp (c * t) : EReal))
      = ((Real.exp (leaky c (s + t)) : ℝ) : EReal) := by
  rw [leaky_eq_max h0 h1, Real.exp_monotone.map_max, mul_add, Real.exp_add, Real.exp_add, EReal.coe_strictMono.monotone.map_max, EReal.coe_mul, EReal.coe_mul]

/-! ## A row of scores -/

variable {n : ℕ} (on : Fin n → Prop) [DecidablePred on] (l f : Fin n → ℝ)

/-- The weight of an entry: its score's exponential on an edge, zero elsewhere. -/
def term (k : Fin n) : ℝ := if on k then Real.exp (l k) else 0

/-- The weighted mean of a row. -/
def rowMean : ℝ := (∑ k, term on l k * f k) / ∑ k, term on l k

/-- A row with an edge has a positive total weight. -/
theorem total_pos (he : ∃ k, on k) : 0 < ∑ k, term on l k := by
  obtain ⟨k, hk⟩ := he
  refine Finset.sum_pos' (fun j _ => ?_) ⟨k, Finset.mem_univ k, ?_⟩
  · unfold term
    split_ifs
    · exact (Real.exp_pos _).le
    · exact le_rfl
  · rw [term, if_pos hk]
    exact Real.exp_pos _

/-- The quotient of a row's weighted sum by its total weight is the weighted mean. -/
theorem mean_quotient (he : ∃ k, on k) :
    Ideal.div (∑ k, (term on l k : EReal) * (f k : EReal)) (∑ k, (term on l k : EReal) * 1) = (rowMean on l f : ℝ) := by
  have e : (∑ k, (term on l k : EReal) * 1) = ((∑ k, term on l k : ℝ) : EReal) := by
    rw [← sum_coe]
    exact Finset.sum_congr rfl fun k _ => mul_one _
  rw [e, dot_coe (f := term on l) (g := f) (fun _ => rfl) (fun _ => rfl), Ideal.div_coe (total_pos on l he).ne', ← EReal.coe_mul, mul_one_div]
  rfl

/-- A masked score: the score on an edge, minus infinity elsewhere. -/
def masked (k : Fin n) : EReal := if on k then (l k : EReal) else ⊥

/-- The greatest masked score of a row with an edge is a real. -/
theorem greatest_real (he : ∃ k, on k) : ∃ r : ℝ, Finset.univ.fold max (⊥ : EReal) (masked on l) = r := by
  have up : ∀ s : Finset (Fin n), s.fold max (⊥ : EReal) (masked on l) ≠ ⊤ := fun s => by
    induction s using Finset.induction_on with
    | empty => simp
    | insert k s hk ih =>
      rw [Finset.fold_insert hk]
      rcases max_choice (masked on l k) (s.fold max ⊥ (masked on l)) with h | h <;> rw [h]
      · unfold masked
        split_ifs
        · exact EReal.coe_ne_top _
        · exact bot_ne_top
      · exact ih
  obtain ⟨k, hk⟩ := he
  have low : (l k : EReal) ≤ Finset.univ.fold max (⊥ : EReal) (masked on l) :=
    (Finset.le_fold_max _).2 (Or.inr ⟨k, Finset.mem_univ k, by rw [masked, if_pos hk]⟩)
  exact ⟨_, (EReal.coe_toReal (up _) (fun h => (EReal.bot_lt_coe (l k)).not_ge (h ▸ low))).symm⟩

/-- The exponential of a masked score less a real is the entry's weight divided by that real's exponential. -/
theorem exp_masked (r : ℝ) (k : Fin n) : Ideal.exp (masked on l k - r) = ((term on l k * (Real.exp r)⁻¹ : ℝ) : EReal) := by
  unfold masked term
  split_ifs
  · rw [← EReal.coe_sub, Ideal.exp_coe, Real.exp_sub, div_eq_mul_inv]
  · rw [EReal.bot_sub, Ideal.exp_bot, zero_mul, EReal.coe_zero]

/-- The mean under the normalized exponentials of the masked scores is the weighted mean. -/
theorem mean_softmax (he : ∃ k, on k) {M : EReal} (hM : M = max ⊥ (Finset.univ.fold max (⊥ : EReal) (masked on l))) :
    (∑ k, Ideal.div (Ideal.exp (masked on l k - M)) (∑ j, Ideal.exp (masked on l j - M)) * (f k : EReal)) = (rowMean on l f : ℝ) := by
  obtain ⟨r, hr⟩ := greatest_real on l he
  rw [max_eq_right bot_le, hr] at hM
  subst hM
  have hs := total_pos on l he
  have hp : (Real.exp r)⁻¹ ≠ 0 := inv_ne_zero (Real.exp_pos r).ne'
  have e : (∑ j, Ideal.exp (masked on l j - (r : EReal))) = (((∑ j, term on l j) * (Real.exp r)⁻¹ : ℝ) : EReal) := by
    rw [Finset.sum_mul, ← sum_coe]
    exact Finset.sum_congr rfl fun j _ => exp_masked on l r j
  rw [e, dot_coe (f := fun k => term on l k / ∑ j, term on l j) (g := f) _ fun _ => rfl, rowMean, Finset.sum_div]
  · exact congrArg _ (Finset.sum_congr rfl fun k _ => div_mul_eq_mul_div _ _ _)
  · intro k
    rw [exp_masked, Ideal.div_coe (mul_ne_zero hs.ne' hp), ← EReal.coe_mul, mul_one_div, mul_div_mul_right _ _ hp]

end Cert.Rows
-- ==== Proof.Agree.lean ====
module

public import proofs.«01_k».proof.Proof.KernelValue
public import proofs.«01_k».proof.Proof.ReferenceValue
public import proofs.«01_k».proof.Proof.Rows

/-! On real features, weights and vectors and an adjacency of zeros and ones with a neighbour in every row, the kernel's
    formula and the reference's give the same array. -/

@[expose] public section

set_option maxRecDepth 16384

noncomputable section

open Idealize.ShloMosaic Cert.Rows

namespace Cert.Agree

abbrev S4096x256 : Shape := Cert.KernelIdeal.S4096x256
abbrev S4096x4096 : Shape := Cert.KernelIdeal.S4096x4096
abbrev S4x256x128 : Shape := Cert.KernelIdeal.S4x256x128
abbrev S4x128x1 : Shape := Cert.KernelIdeal.S4x128x1
abbrev S4x128x8 : Shape := Cert.KernelIdeal.S4x128x8
abbrev S4x8x128 : Shape := Cert.KernelIdeal.S4x8x128

/-- The named constant is the reciprocal of the logarithm of two. -/
theorem log2e_eq : Cert.KernelIdeal.Heads.log2e = (((Real.log 2)⁻¹ : ℝ) : EReal) := rfl

/-- Every entry of an array is a real. -/
def IsReal {s : Shape} (x : FVec Ideal s .f32) : Prop := ∀ i, ∃ r : ℝ, x i = (r : EReal)

/-- What the two formulas are compared on. -/
structure Graph (x : FVec Ideal S4096x256 .f32) (adj : FVec Ideal S4096x4096 .f32) (w : FVec Ideal S4x256x128 .f32) (a b : FVec Ideal S4x128x1 .f32) : Prop where
  x_real : IsReal x
  w_real : IsReal w
  a_real : IsReal a
  b_real : IsReal b
  adj_bit : ∀ i, adj i = (0 : EReal) ∨ adj i = (1 : EReal)
  edge : ∀ r : Fin 4096, ∃ k : Fin 4096, adj (ix2 r k) = (1 : EReal)

/-- An entry of the adjacency is an edge. -/
def on (adj : FVec Ideal S4096x4096 .f32) (i k : Fin 4096) : Prop := adj (ix2 i k) = (1 : EReal)

open Classical in
/-- Both programs' mean, of head `h` at row `i` and coordinate `d`, is the weighted mean of one row of real scores and one
    column of real features. -/
theorem means {x : FVec Ideal S4096x256 .f32} {adj : FVec Ideal S4096x4096 .f32} {w : FVec Ideal S4x256x128 .f32} {a b : FVec Ideal S4x128x1 .f32}
    (g : Graph x adj w a b) (p : FVec Ideal S4x128x8 .f32) (q : FVec Ideal S4x8x128 .f32)
    (p0 : ∀ h k, p (ix3 h k 0) = a (ix3 h k 0)) (p1 : ∀ h k, p (ix3 h k 1) = (Ideal.ofBits .f32 0x3E4CCCCD#32 * a (ix3 h k 0) : EReal))
    (q0 : ∀ h k, q (ix3 h 0 k) = b (ix3 h k 0)) (q1 : ∀ h k, q (ix3 h 1 k) = (Ideal.ofBits .f32 0x3E4CCCCD#32 * b (ix3 h k 0) : EReal))
    (h : Fin 4) (i : Fin 4096) (d : Fin 128) : ∃ (l f : Fin 4096 → ℝ),
      Cert.KernelIdeal.Heads.mean adj (Cert.KernelIdeal.Heads.wide x w) (Cert.KernelIdeal.Heads.expSelf x w p) (Cert.KernelIdeal.Heads.expNeigh x w q) h i d
          = (rowMean (on adj i) l f : ℝ) ∧
        Cert.ReferenceIdeal.Heads.headOf x adj w a b h (ix2 i d) = ((rowMean (on adj i) l f : ℝ) : EReal) := by
  obtain ⟨c, c0, c1, ec⟩ := slope_real
  choose X hX using g.x_real
  choose W hW using g.w_real
  choose A hA using g.a_real
  choose B hB using g.b_real
  rw [ec] at p1 q1
  -- the features of the head, as reals
  let F : Fin 4096 → Fin 128 → ℝ := fun r e => ∑ k, X (ix2 r k) * W (ix3 h k e)
  let s : Fin 4096 → ℝ := fun r => ∑ k, F r k * A (ix3 h k 0)
  let t : Fin 4096 → ℝ := fun r => ∑ k, F r k * B (ix3 h k 0)
  have hF : ∀ r e, Cert.KernelIdeal.Heads.feat x w h r e = (F r e : EReal) := fun r e => dot_coe (fun k => hX _) (fun k => hW _)
  have hG : ∀ r e, Cert.ReferenceIdeal.Heads.featV x (Cert.ReferenceIdeal.Heads.weights w h) (ix2 r e) = (F r e : EReal) := fun r e => by
    rw [Cert.ReferenceIdeal.Heads.featV_at]
    exact dot_coe (fun k => hX _) (fun k => by rw [Cert.ReferenceIdeal.Heads.weights_at]; exact hW _)
  have he : ∃ k, on adj i k := g.edge i
  refine ⟨fun k => leaky c (s i + t k), fun k => F k d, ?_, ?_⟩
  · -- the kernel
    have es0 : ∀ r, Cert.KernelIdeal.Heads.expSelf x w p (ix3 h r 0) = (Real.exp (s r) : EReal) := fun r => by
      have e : (∑ k : Fin 128, Cert.KernelIdeal.Heads.feat x w h r k * (p (ix3 h k 0) * Cert.KernelIdeal.Heads.log2e))
          = ((s r * (Real.log 2)⁻¹ : ℝ) : EReal) := by
        rw [dot_coe (g := fun k => A (ix3 h k 0) * (Real.log 2)⁻¹) (hF r) fun k => by rw [p0, hA, log2e_eq, EReal.coe_mul]]
        exact congrArg _ (by rw [Finset.sum_mul]; exact Finset.sum_congr rfl fun k _ => by ring)
      exact (congrArg Ideal.exp2 e).trans (exp2_scaled _)
    have es1 : ∀ r, Cert.KernelIdeal.Heads.expSelf x w p (ix3 h r 1) = (Real.exp (c * s r) : EReal) := fun r => by
      have e : (∑ k : Fin 128, Cert.KernelIdeal.Heads.feat x w h r k * (p (ix3 h k 1) * Cert.KernelIdeal.Heads.log2e))
          = ((c * s r * (Real.log 2)⁻¹ : ℝ) : EReal) := by
        rw [dot_coe (g := fun k => c * A (ix3 h k 0) * (Real.log 2)⁻¹) (hF r) fun k => by rw [p1, hA, log2e_eq, EReal.coe_mul, EReal.coe_mul]]
        exact congrArg _ (by rw [Finset.mul_sum, Finset.sum_mul]; exact Finset.sum_congr rfl fun k _ => by ring)
      exact (congrArg Ideal.exp2 e).trans (exp2_scaled _)
    have en0 : ∀ r, Cert.KernelIdeal.Heads.expNeigh x w q (ix3 h 0 r) = (Real.exp (t r) : EReal) := fun r => by
      have e : (∑ k : Fin 128, q (ix3 h 0 k) * Cert.KernelIdeal.Heads.log2e * Cert.KernelIdeal.Heads.feat x w h r k)
          = ((t r * (Real.log 2)⁻¹ : ℝ) : EReal) := by
        rw [dot_coe (f := fun k => B (ix3 h k 0) * (Real.log 2)⁻¹) (fun k => by rw [q0, hB, log2e_eq, EReal.coe_mul]) (hF r)]
        exact congrArg _ (by rw [Finset.sum_mul]; exact Finset.sum_congr rfl fun k _ => by ring)
      exact (congrArg Ideal.exp2 e).trans (exp2_scaled _)
    have en1 : ∀ r, Cert.KernelIdeal.Heads.expNeigh x w q (ix3 h 1 r) = (Real.exp (c * t r) : EReal) := fun r => by
      have e : (∑ k : Fin 128, q (ix3 h 1 k) * Cert.KernelIdeal.Heads.log2e * Cert.KernelIdeal.Heads.feat x w h r k)
          = ((c * t r * (Real.log 2)⁻¹ : ℝ) : EReal) := by
        rw [dot_coe (f := fun k => c * B (ix3 h k 0) * (Real.log 2)⁻¹) (fun k => by rw [q1, hB, log2e_eq, EReal.coe_mul, EReal.coe_mul]) (hF r)]
        exact congrArg _ (by rw [Finset.mul_sum, Finset.sum_mul]; exact Finset.sum_congr rfl fun k _ => by ring)
      exact (congrArg Ideal.exp2 e).trans (exp2_scaled _)
    have hw : ∀ k, Cert.KernelIdeal.Heads.weight adj (Cert.KernelIdeal.Heads.expSelf x w p) (Cert.KernelIdeal.Heads.expNeigh x w q) h i k
        = (term (on adj i) (fun k => leaky c (s i + t k)) k : EReal) := fun k => by
      unfold Cert.KernelIdeal.Heads.weight term
      rw [es0, es1, en0, en1, max_exp c0 c1]
      rcases g.adj_bit (ix2 i k) with e | e
      · rw [e, mul_zero, if_neg (show ¬on adj i k from fun o => zero_ne_one (e.symm.trans o)), EReal.coe_zero]
      · rw [e, mul_one, if_pos (show on adj i k from e)]
    have hn : ∀ k, Cert.KernelIdeal.Heads.wide x w (ix3 h k ⟨d.val, by omega⟩) = (F k d : EReal) := fun k =>
      (dif_pos d.isLt).trans (hF k d)
    have hc : ∀ k, Cert.KernelIdeal.Heads.wide x w (ix3 h k 128) = (1 : EReal) := fun k => by
      refine (dif_neg (Nat.lt_irrefl 128)).trans (if_pos rfl)
    refine Eq.trans ?_ (mean_quotient (on adj i) (fun k => leaky c (s i + t k)) (fun k => F k d) he)
    unfold Cert.KernelIdeal.Heads.mean
    exact congrArg₂ Ideal.div (Finset.sum_congr rfl fun k _ => congrArg₂ _ (hw k) (hn k))
      (Finset.sum_congr rfl fun k _ => congrArg₂ _ (hw k) (hc k))
  · -- the reference
    have el : Cert.ReferenceIdeal.Heads.low = (⊥ : EReal) := by simp [Ideal.ofBits, Ideal.ieee]
    have hz : ∀ k, Cert.ReferenceIdeal.Heads.logitV (Cert.ReferenceIdeal.Heads.featV x (Cert.ReferenceIdeal.Heads.weights w h))
        (Cert.ReferenceIdeal.Heads.vector a h) (Cert.ReferenceIdeal.Heads.vector b h) (ix2 i k) = ((s i + t k : ℝ) : EReal) := fun k => by
      rw [Cert.ReferenceIdeal.Heads.logitV_at, dot_coe (hG i) fun k => (Cert.ReferenceIdeal.Heads.vector_at a h k).trans (hA _),
        dot_coe (hG k) fun k => (Cert.ReferenceIdeal.Heads.vector_at b h k).trans (hB _), ← EReal.coe_add]
    have hs : ∀ k, Cert.ReferenceIdeal.Heads.scoreV (Cert.ReferenceIdeal.Heads.logitV (Cert.ReferenceIdeal.Heads.featV x (Cert.ReferenceIdeal.Heads.weights w h))
        (Cert.ReferenceIdeal.Heads.vector a h) (Cert.ReferenceIdeal.Heads.vector b h)) (Cert.ReferenceIdeal.Heads.maskV adj) (ix2 i k)
        = masked (on adj i) (fun k => leaky c (s i + t k)) k := fun k => by
      have ez : (if (0 : EReal) ≤ ((s i + t k : ℝ) : EReal) then ((s i + t k : ℝ) : EReal) else Cert.ReferenceIdeal.Heads.slope * ((s i + t k : ℝ) : EReal))
          = ((leaky c (s i + t k) : ℝ) : EReal) := by
        rw [show Cert.ReferenceIdeal.Heads.slope = (c : EReal) from ec, leaky]
        by_cases z : 0 ≤ s i + t k
        · rw [if_pos z, if_pos (EReal.coe_nonneg.2 z)]
        · rw [if_neg z, if_neg fun y => z (EReal.coe_nonneg.1 y), EReal.coe_mul]
      rw [Cert.ReferenceIdeal.Heads.scoreV_at, Cert.ReferenceIdeal.Heads.maskV_at, hz, ez, masked]
      rcases g.adj_bit (ix2 i k) with e | e
      · rw [e, if_neg (lt_irrefl _), if_neg (show ¬on adj i k from fun o => zero_ne_one (e.symm.trans o)), el, EReal.add_bot]
      · rw [e, if_pos zero_lt_one, if_pos (show on adj i k from e), add_zero]
    refine Eq.trans ?_ (mean_softmax (on adj i) (fun k => leaky c (s i + t k)) (fun k => F k d) he rfl)
    refine (Cert.ReferenceIdeal.Heads.mixV_at _ _ i d).trans ?_
    have hx : ∀ k, Cert.ReferenceIdeal.Heads.expV (Cert.ReferenceIdeal.Heads.scoreV (Cert.ReferenceIdeal.Heads.logitV (Cert.ReferenceIdeal.Heads.featV x (Cert.ReferenceIdeal.Heads.weights w h))
        (Cert.ReferenceIdeal.Heads.vector a h) (Cert.ReferenceIdeal.Heads.vector b h)) (Cert.ReferenceIdeal.Heads.maskV adj)) (ix2 i k)
        = Ideal.exp (masked (on adj i) (fun k => leaky c (s i + t k)) k
          - max ⊥ (Finset.univ.fold max (⊥ : EReal) (masked (on adj i) fun k => leaky c (s i + t k)))) := fun k => by
      rw [Cert.ReferenceIdeal.Heads.expV_at, hs, el]
      exact congrArg (fun u => Ideal.exp (_ - max ⊥ u)) (Finset.fold_congr fun k _ => hs k)
    exact Finset.sum_congr rfl fun k _ => congrArg₂ _ (congrArg₂ _ (hx k) (Finset.sum_congr rfl fun j _ => hx j)) (hG k d)

/-- The two exponential linear units agree. -/
theorem elu_eq (y : EReal) : Cert.KernelIdeal.Heads.elu y = Cert.ReferenceIdeal.Heads.elu y := by
  unfold Cert.KernelIdeal.Heads.elu Cert.ReferenceIdeal.Heads.elu
  by_cases h : 0 < y
  · rw [if_pos h, if_pos h]
  · rw [if_neg h, if_neg h, if_neg h, min_eq_left (not_lt.1 h)]

/-- The two results agree. -/
theorem results {x : FVec Ideal S4096x256 .f32} {adj : FVec Ideal S4096x4096 .f32} {w : FVec Ideal S4x256x128 .f32} {a b : FVec Ideal S4x128x1 .f32}
    (g : Graph x adj w a b) (p : FVec Ideal S4x128x8 .f32) (q : FVec Ideal S4x8x128 .f32)
    (p0 : ∀ h k, p (ix3 h k 0) = a (ix3 h k 0)) (p1 : ∀ h k, p (ix3 h k 1) = (Ideal.ofBits .f32 0x3E4CCCCD#32 * a (ix3 h k 0) : EReal))
    (q0 : ∀ h k, q (ix3 h 0 k) = b (ix3 h k 0)) (q1 : ∀ h k, q (ix3 h 1 k) = (Ideal.ofBits .f32 0x3E4CCCCD#32 * b (ix3 h k 0) : EReal)) :
    Cert.KernelIdeal.Heads.result adj (Cert.KernelIdeal.Heads.wide x w) (Cert.KernelIdeal.Heads.expSelf x w p) (Cert.KernelIdeal.Heads.expNeigh x w q)
      = Cert.ReferenceIdeal.Heads.resultV x adj w a b := by
  funext y
  obtain ⟨i, j, rfl⟩ : ∃ (i : Fin 4096) (j : Fin 512), y = ix2 i j := ⟨y 0, y 1, by blk_ext⟩
  obtain ⟨l, f, e1, e2⟩ := means g p q p0 p1 q0 q1 ⟨j.val / 128, by omega⟩ i ⟨j.val % 128, by omega⟩
  refine Eq.trans ?_ (Cert.ReferenceIdeal.Heads.resultV_at x adj w a b i j).symm
  rw [e2, ← elu_eq]
  exact congrArg Cert.KernelIdeal.Heads.elu e1

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_graph
public import proofs.«01_k».proof.Proof.Gen.KernelIdeal.Value
public import proofs.«01_k».proof.Proof.Gen.ReferenceIdeal.Run
public import proofs.«01_k».proof.Proof.KernelRun
public import proofs.«01_k».proof.Proof.Given
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From any memory the reference terminates with its arguments unchanged and every counter at zero: it is host
    operations only and declares no semaphore. -/
theorem reference_frame : Cert.quiescent_ReferenceIdeal (hReferenceIdeal := Cert.ReferenceIdeal.Gen.facts) := fun m ρ _ =>
  Idealize.ShloMosaic.θ_run_mono (Cert.ReferenceIdeal.Value.run (F := Ideal) m ρ) fun r h =>
    ⟨fun c => (h c).2, Idealize.ShloMosaic.sem_eq_zero_of_no_sems (by decide) r.2⟩

/-- On every graph the precondition admits, the idealized kernel and the idealized reference compute the same array. -/
theorem values : Cert.algebraic_KernelIdeal_ReferenceIdeal_pre_graph (hKernelIdeal := Cert.KernelIdeal.Gen.facts)
    (hReferenceIdeal := Cert.ReferenceIdeal.Gen.facts) (hPre_graph := Cert.Pre_graph.Gen.facts) := by
  intro m g m' g' hpre hagree
  refine ⟨fun c => (Cert.KernelIdeal.Gen.dats m 0 c).arrAt 5 Cert.KernelIdeal.cfg0.N, Cert.KernelIdeal.Value.run_blocks m g,
    Idealize.ShloMosaic.θ_run_mono (Cert.ReferenceIdeal.Value.run (F := Ideal) m' g') fun r h c => ⟨(h c).1.trans ?_, (h c).2⟩⟩
  obtain ⟨e0, e1, e2, e3, e4⟩ := hagree c
  obtain ⟨r0, r2, r3, r4, r1, ed⟩ := @Cert.Given.decoded _ _ _ _ _ Cert.Pre_graph.Gen.facts (hpre c)
  refine (Cert.ReferenceIdeal.Heads.joined (StableHlo.launchContents m' c)).trans ?_
  refine Eq.trans ?_ (Cert.KernelIdeal.Heads.final m c).symm
  refine Eq.trans ?_ (Cert.Agree.results ⟨r0, r2, r3, r4, r1, ed⟩ _ _ (Cert.KernelIdeal.Heads.self_zero m c) (Cert.KernelIdeal.Heads.self_one m c)
    (Cert.KernelIdeal.Heads.neigh_zero m c) (Cert.KernelIdeal.Heads.neigh_one m c)).symm
  rw [← e0, ← e1, ← e2, ← e3, ← e4]

/-- Both kernels' frames and the reference's come from their runs; the named constant is stated by its rule; the values are `values`. -/
theorem claim : Cert.Claim := ⟨Cert.Kernel.Gen.facts, Cert.KernelIdeal.Gen.facts, Cert.ReferenceIdeal.Gen.facts, Cert.Pre_graph.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  IdealRules.named_const.statement Cert.KernelIdeal.κ "log2e" .f32 0x3FB8AA3B#32 _ rfl,
  values⟩

end Cert.Proof

end
